-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S4x32x4096x128 : Shape := ⟨4, ![4, 32, 4096, 128]⟩
abbrev S32x128x128 : Shape := ⟨3, ![32, 128, 128]⟩
abbrev S128 : Shape := ⟨1, ![128]⟩
abbrev S_ : Shape := ⟨0, ![]⟩

class Facts : Prop where
  bcast_S_S4x32x4096x128 : S_.BroadcastsInDim S4x32x4096x128 (![] : Fin 0 → Fin S4x32x4096x128.rank)
  bcast_S_S32x128x128 : S_.BroadcastsInDim S32x128x128 (![] : Fin 0 → Fin S32x128x128.rank)
  bcast_S_S128 : S_.BroadcastsInDim S128 (![] : Fin 0 → Fin S128.rank)

variable [Facts]

def fn {F : FTy → Type} [FloatOps F] (main_arg0 : FVec F S4x32x4096x128 .f32) (main_arg1 : FVec F S32x128x128 .f32) (main_arg2 : FVec F S128 .f32) : IVec S4x32x4096x128 1 × IVec S32x128x128 1 × IVec S128 1 :=
  let main_v0 : FVec F S4x32x4096x128 .f32 := Host.absf main_arg0
  let main_cst : FVec F S_ .f32 := constant S_ .f32 0x7F800000#32
  let main_v1 : FVec F S4x32x4096x128 .f32 := broadcastInDim S4x32x4096x128 ![] bcast_S_S4x32x4096x128 main_cst
  let main_v2 : IVec S4x32x4096x128 1 := cmpf .olt main_v0 main_v1
  let main_v3 : FVec F S32x128x128 .f32 := Host.absf main_arg1
  let main_cst_0 : FVec F S_ .f32 := constant S_ .f32 0x7F800000#32
  let main_v4 : FVec F S32x128x128 .f32 := broadcastInDim S32x128x128 ![] bcast_S_S32x128x128 main_cst_0
  let main_v5 : IVec S32x128x128 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  (main_v2, main_v5, main_v8)
-- ==== Kernel.lean ====
abbrev S4x32x4096x128 : Shape := ⟨4, ![4, 32, 4096, 128]⟩
abbrev S32x128x128 : Shape := ⟨3, ![32, 128, 128]⟩
abbrev S128 : Shape := ⟨1, ![128]⟩
abbrev S16x128x128 : Shape := ⟨3, ![16, 128, 128]⟩
abbrev S16x128x256 : Shape := ⟨3, ![16, 128, 256]⟩
abbrev S16x256x256 : Shape := ⟨3, ![16, 256, 256]⟩
abbrev S256 : Shape := ⟨1, ![256]⟩
abbrev S_ : Shape := ⟨0, ![]⟩
abbrev S1x1x256 : Shape := ⟨3, ![1, 1, 256]⟩
abbrev S1x32x512x128 : Shape := ⟨4, ![1, 32, 512, 128]⟩
abbrev S16x512x256 : Shape := ⟨3, ![16, 512, 256]⟩
abbrev S1x1x16x128 : Shape := ⟨4, ![1, 1, 16, 128]⟩
abbrev S16x128 : Shape := ⟨2, ![16, 128]⟩
abbrev S16x256 : Shape := ⟨2, ![16, 256]⟩
abbrev S1x16x256 : Shape := ⟨3, ![1, 16, 256]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512x128 : Shape := ⟨2, ![512, 128]⟩
abbrev S1x1x512x128 : Shape := ⟨4, ![1, 1, 512, 128]⟩

abbrev nBuf : Space → Nat
  | .hbm => 19
  | .vmem => 6
  | .smem => 0
  | _ => 0

abbrev bufTy : (tb : Table) → Fin (tcTables nBuf tb) → BufTy
  | .hbm, ⟨0, _⟩ => ⟨S4x32x4096x128, .f32⟩
  | .hbm, ⟨1, _⟩ => ⟨S32x128x128, .f32⟩
  | .hbm, ⟨2, _⟩ => ⟨S128, .f32⟩
  | .hbm, ⟨3, _⟩ => ⟨S16x128x128, .f32⟩
  | .hbm, ⟨4, _⟩ => ⟨S16x128x128, .f32⟩
  | .hbm, ⟨5, _⟩ => ⟨S16x128x128, .f32⟩
  | .hbm, ⟨6, _⟩ => ⟨S16x128x128, .f32⟩
  | .hbm, ⟨7, _⟩ => ⟨S16x128x256, .f32⟩
  | .hbm, ⟨8, _⟩ => ⟨S16x128x256, .f32⟩
  | .hbm, ⟨9, _⟩ => ⟨S16x256x256, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S1x1x256, .f32⟩
  | .hbm, ⟨15, _⟩ => ⟨S16x256x256, .f32⟩
  | .hbm, ⟨16, _⟩ => ⟨S16x256x256, .f32⟩
  | .hbm, ⟨17, _⟩ => ⟨S16x256x256, .bf16⟩
  | .hbm, ⟨18, _⟩ => ⟨S4x32x4096x128, .f32⟩
  | .local _ .vmem, ⟨0, _⟩ => ⟨S1x32x512x128, .f32⟩
  | .local _ .vmem, ⟨1, _⟩ => ⟨S1x32x512x128, .f32⟩
  | .local _ .vmem, ⟨2, _⟩ => ⟨S16x256x256, .bf16⟩
  | .local _ .vmem, ⟨3, _⟩ => ⟨S1x32x512x128, .f32⟩
  | .local _ .vmem, ⟨4, _⟩ => ⟨S1x32x512x128, .f32⟩
  | .local _ .vmem, ⟨5, _⟩ => ⟨S16x512x256, .bf16⟩
  | _, _ => ⟨S4x32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 4 → Nat :=
  let c0_212 : Index := 0#32
  let c0_213 : Index := 0#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v211 : Index := Scalar.indexCast v210
  let c0_214 : Index := 0#32
  ![0, 0, v211.toNat, 0]
def k0_off2 (k0_t1 : Fin k0_t1_loop.trips) : Fin 4 → Nat :=
  let c0_215 : Index := 0#32
  let c1_216 : Index := 1#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v214 : Index := Scalar.indexCast v210
  let c0_217 : Index := 0#32
  ![0, 1, v214.toNat, 0]
def k0_off3 (k0_t1 : Fin k0_t1_loop.trips) : Fin 4 → Nat :=
  let c0_218 : Index := 0#32
  let c2_219 : Index := 2#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v218 : Index := Scalar.indexCast v210
  let c0_220 : Index := 0#32
  ![0, 2, v218.toNat, 0]
def k0_off4 (k0_t1 : Fin k0_t1_loop.trips) : Fin 4 → Nat :=
  let c0_221 : Index := 0#32
  let c3_222 : Index := 3#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v221 : Index := Scalar.indexCast v210
  let c0_223 : Index := 0#32
  ![0, 3, v221.toNat, 0]
def k0_off5 (k0_t1 : Fin k0_t1_loop.trips) : Fin 4 → Nat :=
  let c0_224 : Index := 0#32
  let c4_225 : Index := 4#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v225 : Index := Scalar.indexCast v210
  let c0_226 : Index := 0#32
  ![0, 4, v225.toNat, 0]
def k0_off6 (k0_t1 : Fin k0_t1_loop.trips) : Fin 4 → Nat :=
  let c0_227 : Index := 0#32
  let c5_228 : Index := 5#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v228 : Index := Scalar.indexCast v210
  let c0_229 : Index := 0#32
  ![0, 5, v228.toNat, 0]
def k0_off7 (k0_t1 : Fin k0_t1_loop.trips) : Fin 4 → Nat :=
  let c0_230 : Index := 0#32
  let c6_231 : Index := 6#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v232 : Index := Scalar.indexCast v210
  let c0_232 : Index := 0#32
  ![0, 6, v232.toNat, 0]
def k0_off8 (k0_t1 : Fin k0_t1_loop.trips) : Fin 4 → Nat :=
  let c0_233 : Index := 0#32
  let c7_234 : Index := 7#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v235 : Index := Scalar.indexCast v210
  let c0_235 : Index := 0#32
  ![0, 7, v235.toNat, 0]
def k0_off9 (k0_t1 : Fin k0_t1_loop.trips) : Fin 4 → Nat :=
  let c0_236 : Index := 0#32
  let c8_237 : Index := 8#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v239 : Index := Scalar.indexCast v210
  let c0_238 : Index := 0#32
  ![0, 8, v239.toNat, 0]
def k0_off10 (k0_t1 : Fin k0_t1_loop.trips) : Fin 4 → Nat :=
  let c0_239 : Index := 0#32
  let c9_240 : Index := 9#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v242 : Index := Scalar.indexCast v210
  let c0_241 : Index := 0#32
  ![0, 9, v242.toNat, 0]
def k0_off11 (k0_t1 : Fin k0_t1_loop.trips) : Fin 4 → Nat :=
  let c0_242 : Index := 0#32
  let c10_243 : Index := 10#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v246 : Index := Scalar.indexCast v210
  let c0_244 : Index := 0#32
  ![0, 10, v246.toNat, 0]
def k0_off12 (k0_t1 : Fin k0_t1_loop.trips) : Fin 4 → Nat :=
  let c0_245 : Index := 0#32
  let c11_246 : Index := 11#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v249 : Index := Scalar.indexCast v210
  let c0_247 : Index := 0#32
  ![0, 11, v249.toNat, 0]
def k0_off13 (k0_t1 : Fin k0_t1_loop.trips) : Fin 4 → Nat :=
  let c0_248 : Index := 0#32
  let c12_249 : Index := 12#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v253 : Index := Scalar.indexCast v210
  let c0_250 : Index := 0#32
  ![0, 12, v253.toNat, 0]
def k0_off14 (k0_t1 : Fin k0_t1_loop.trips) : Fin 4 → Nat :=
  let c0_251 : Index := 0#32
  let c13_252 : Index := 13#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v256 : Index := Scalar.indexCast v210
  let c0_253 : Index := 0#32
  ![0, 13, v256.toNat, 0]
def k0_off15 (k0_t1 : Fin k0_t1_loop.trips) : Fin 4 → Nat :=
  let c0_254 : Index := 0#32
  let c14_255 : Index := 14#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v260 : Index := Scalar.indexCast v210
  let c0_256 : Index := 0#32
  ![0, 14, v260.toNat, 0]
def k0_off16 (k0_t1 : Fin k0_t1_loop.trips) : Fin 4 → Nat :=
  let c0_257 : Index := 0#32
  let c15_258 : Index := 15#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v263 : Index := Scalar.indexCast v210
  let c0_259 : Index := 0#32
  ![0, 15, v263.toNat, 0]
def k0_off17 (k0_t1 : Fin k0_t1_loop.trips) : Fin 4 → Nat :=
  let c0_260 : Index := 0#32
  let c16_261 : Index := 16#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v267 : Index := Scalar.indexCast v210
  let c0_262 : Index := 0#32
  ![0, 16, v267.toNat, 0]
def k0_off18 (k0_t1 : Fin k0_t1_loop.trips) : Fin 4 → Nat :=
  let c0_263 : Index := 0#32
  let c17_264 : Index := 17#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v270 : Index := Scalar.indexCast v210
  let c0_265 : Index := 0#32
  ![0, 17, v270.toNat, 0]
def k0_off19 (k0_t1 : Fin k0_t1_loop.trips) : Fin 4 → Nat :=
  let c0_266 : Index := 0#32
  let c18_267 : Index := 18#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v274 : Index := Scalar.indexCast v210
  let c0_268 : Index := 0#32
  ![0, 18, v274.toNat, 0]
def k0_off20 (k0_t1 : Fin k0_t1_loop.trips) : Fin 4 → Nat :=
  let c0_269 : Index := 0#32
  let c19_270 : Index := 19#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v277 : Index := Scalar.indexCast v210
  let c0_271 : Index := 0#32
  ![0, 19, v277.toNat, 0]
def k0_off21 (k0_t1 : Fin k0_t1_loop.trips) : Fin 4 → Nat :=
  let c0_272 : Index := 0#32
  let c20_273 : Index := 20#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v281 : Index := Scalar.indexCast v210
  let c0_274 : Index := 0#32
  ![0, 20, v281.toNat, 0]
def k0_off22 (k0_t1 : Fin k0_t1_loop.trips) : Fin 4 → Nat :=
  let c0_275 : Index := 0#32
  let c21_276 : Index := 21#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v284 : Index := Scalar.indexCast v210
  let c0_277 : Index := 0#32
  ![0, 21, v284.toNat, 0]
def k0_off23 (k0_t1 : Fin k0_t1_loop.trips) : Fin 4 → Nat :=
  let c0_278 : Index := 0#32
  let c22_279 : Index := 22#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v288 : Index := Scalar.indexCast v210
  let c0_280 : Index := 0#32
  ![0, 22, v288.toNat, 0]
def k0_off24 (k0_t1 : Fin k0_t1_loop.trips) : Fin 4 → Nat :=
  let c0_281 : Index := 0#32
  let c23_282 : Index := 23#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v291 : Index := Scalar.indexCast v210
  let c0_283 : Index := 0#32
  ![0, 23, v291.toNat, 0]
def k0_off25 (k0_t1 : Fin k0_t1_loop.trips) : Fin 4 → Nat :=
  let c0_284 : Index := 0#32
  let c24_285 : Index := 24#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v295 : Index := Scalar.indexCast v210
  let c0_286 : Index := 0#32
  ![0, 24, v295.toNat, 0]
def k0_off26 (k0_t1 : Fin k0_t1_loop.trips) : Fin 4 → Nat :=
  let c0_287 : Index := 0#32
  let c25_288 : Index := 25#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v298 : Index := Scalar.indexCast v210
  let c0_289 : Index := 0#32
  ![0, 25, v298.toNat, 0]
def k0_off27 (k0_t1 : Fin k0_t1_loop.trips) : Fin 4 → Nat :=
  let c0_290 : Index := 0#32
  let c26_291 : Index := 26#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v302 : Index := Scalar.indexCast v210
  let c0_292 : Index := 0#32
  ![0, 26, v302.toNat, 0]
def k0_off28 (k0_t1 : Fin k0_t1_loop.trips) : Fin 4 → Nat :=
  let c0_293 : Index := 0#32
  let c27_294 : Index := 27#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v305 : Index := Scalar.indexCast v210
  let c0_295 : Index := 0#32
  ![0, 27, v305.toNat, 0]
def k0_off29 (k0_t1 : Fin k0_t1_loop.trips) : Fin 4 → Nat :=
  let c0_296 : Index := 0#32
  let c28_297 : Index := 28#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v309 : Index := Scalar.indexCast v210
  let c0_298 : Index := 0#32
  ![0, 28, v309.toNat, 0]
def k0_off30 (k0_t1 : Fin k0_t1_loop.trips) : Fin 4 → Nat :=
  let c0_299 : Index := 0#32
  let c29_300 : Index := 29#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v312 : Index := Scalar.indexCast v210
  let c0_301 : Index := 0#32
  ![0, 29, v312.toNat, 0]
def k0_off31 (k0_t1 : Fin k0_t1_loop.trips) : Fin 4 → Nat :=
  let c0_302 : Index := 0#32
  let c30_303 : Index := 30#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v316 : Index := Scalar.indexCast v210
  let c0_304 : Index := 0#32
  ![0, 30, v316.toNat, 0]
def k0_off32 (k0_t1 : Fin k0_t1_loop.trips) : Fin 4 → Nat :=
  let c0_305 : Index := 0#32
  let c31_306 : Index := 31#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v319 : Index := Scalar.indexCast v210
  let c0_307 : Index := 0#32
  ![0, 31, v319.toNat, 0]
def k0_off33 (k0_t1 : Fin k0_t1_loop.trips) : Fin 3 → Nat :=
  let c0_308 : Index := 0#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v388 : Index := Scalar.indexCast v210
  let c0_309 : Index := 0#32
  ![0, v388.toNat, 0]
def k0_off34 (k0_t1 : Fin k0_t1_loop.trips) : Fin 3 → Nat :=
  let c1_310 : Index := 1#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v393 : Index := Scalar.indexCast v210
  let c0_311 : Index := 0#32
  ![1, v393.toNat, 0]
def k0_off35 (k0_t1 : Fin k0_t1_loop.trips) : Fin 3 → Nat :=
  let c2_312 : Index := 2#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v398 : Index := Scalar.indexCast v210
  let c0_313 : Index := 0#32
  ![2, v398.toNat, 0]
def k0_off36 (k0_t1 : Fin k0_t1_loop.trips) : Fin 3 → Nat :=
  let c3_314 : Index := 3#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v403 : Index := Scalar.indexCast v210
  let c0_315 : Index := 0#32
  ![3, v403.toNat, 0]
def k0_off37 (k0_t1 : Fin k0_t1_loop.trips) : Fin 3 → Nat :=
  let c4_316 : Index := 4#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v408 : Index := Scalar.indexCast v210
  let c0_317 : Index := 0#32
  ![4, v408.toNat, 0]
def k0_off38 (k0_t1 : Fin k0_t1_loop.trips) : Fin 3 → Nat :=
  let c5_318 : Index := 5#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v413 : Index := Scalar.indexCast v210
  let c0_319 : Index := 0#32
  ![5, v413.toNat, 0]
def k0_off39 (k0_t1 : Fin k0_t1_loop.trips) : Fin 3 → Nat :=
  let c6_320 : Index := 6#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v418 : Index := Scalar.indexCast v210
  let c0_321 : Index := 0#32
  ![6, v418.toNat, 0]
def k0_off40 (k0_t1 : Fin k0_t1_loop.trips) : Fin 3 → Nat :=
  let c7_322 : Index := 7#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v423 : Index := Scalar.indexCast v210
  let c0_323 : Index := 0#32
  ![7, v423.toNat, 0]
def k0_off41 (k0_t1 : Fin k0_t1_loop.trips) : Fin 3 → Nat :=
  let c8_324 : Index := 8#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v428 : Index := Scalar.indexCast v210
  let c0_325 : Index := 0#32
  ![8, v428.toNat, 0]
def k0_off42 (k0_t1 : Fin k0_t1_loop.trips) : Fin 3 → Nat :=
  let c9_326 : Index := 9#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v433 : Index := Scalar.indexCast v210
  let c0_327 : Index := 0#32
  ![9, v433.toNat, 0]
def k0_off43 (k0_t1 : Fin k0_t1_loop.trips) : Fin 3 → Nat :=
  let c10_328 : Index := 10#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v438 : Index := Scalar.indexCast v210
  let c0_329 : Index := 0#32
  ![10, v438.toNat, 0]
def k0_off44 (k0_t1 : Fin k0_t1_loop.trips) : Fin 3 → Nat :=
  let c11_330 : Index := 11#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v443 : Index := Scalar.indexCast v210
  let c0_331 : Index := 0#32
  ![11, v443.toNat, 0]
def k0_off45 (k0_t1 : Fin k0_t1_loop.trips) : Fin 3 → Nat :=
  let c12_332 : Index := 12#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v448 : Index := Scalar.indexCast v210
  let c0_333 : Index := 0#32
  ![12, v448.toNat, 0]
def k0_off46 (k0_t1 : Fin k0_t1_loop.trips) : Fin 3 → Nat :=
  let c13_334 : Index := 13#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v453 : Index := Scalar.indexCast v210
  let c0_335 : Index := 0#32
  ![13, v453.toNat, 0]
def k0_off47 (k0_t1 : Fin k0_t1_loop.trips) : Fin 3 → Nat :=
  let c14_336 : Index := 14#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v458 : Index := Scalar.indexCast v210
  let c0_337 : Index := 0#32
  ![14, v458.toNat, 0]
def k0_off48 (k0_t1 : Fin k0_t1_loop.trips) : Fin 3 → Nat :=
  let c15_338 : Index := 15#32
  let c0_i32 : BitVec 32 := 0#32
  let c1_i32 : BitVec 32 := 1#32
  let arg6 : BitVec 32 := Scf.iv c0_i32 c1_i32 k0_t1
  let c16_i32 : BitVec 32 := 16#32
  let v210 : BitVec 32 := Scalar.muli arg6 c16_i32
  let v463 : Index := Scalar.indexCast v210
  let c0_339 : Index := 0#32
  ![15, v463.toNat, 0]
@[reducible] def k0_t2_loop : Scf.Loop 32 :=
  let c0_i32_208 : BitVec 32 := 0#32
  let c32_i32_209 : BitVec 32 := 32#32
  let v209 : BitVec 32 := Scalar.addi c0_i32_208 c32_i32_209
  let c1_i32_210 : BitVec 32 := 1#32
  ⟨c0_i32_208, v209, c1_i32_210⟩
def k0_off49 (k0_t2 : Fin k0_t2_loop.trips) : Fin 4 → Nat :=
  let c0_212 : Index := 0#32
  let c0_213 : Index := 0#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v211 : Index := Scalar.indexCast v210
  let c0_214 : Index := 0#32
  ![0, 0, v211.toNat, 0]
def k0_off50 (k0_t2 : Fin k0_t2_loop.trips) : Fin 4 → Nat :=
  let c0_215 : Index := 0#32
  let c1_216 : Index := 1#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v214 : Index := Scalar.indexCast v210
  let c0_217 : Index := 0#32
  ![0, 1, v214.toNat, 0]
def k0_off51 (k0_t2 : Fin k0_t2_loop.trips) : Fin 4 → Nat :=
  let c0_218 : Index := 0#32
  let c2_219 : Index := 2#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v218 : Index := Scalar.indexCast v210
  let c0_220 : Index := 0#32
  ![0, 2, v218.toNat, 0]
def k0_off52 (k0_t2 : Fin k0_t2_loop.trips) : Fin 4 → Nat :=
  let c0_221 : Index := 0#32
  let c3_222 : Index := 3#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v221 : Index := Scalar.indexCast v210
  let c0_223 : Index := 0#32
  ![0, 3, v221.toNat, 0]
def k0_off53 (k0_t2 : Fin k0_t2_loop.trips) : Fin 4 → Nat :=
  let c0_224 : Index := 0#32
  let c4_225 : Index := 4#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v225 : Index := Scalar.indexCast v210
  let c0_226 : Index := 0#32
  ![0, 4, v225.toNat, 0]
def k0_off54 (k0_t2 : Fin k0_t2_loop.trips) : Fin 4 → Nat :=
  let c0_227 : Index := 0#32
  let c5_228 : Index := 5#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v228 : Index := Scalar.indexCast v210
  let c0_229 : Index := 0#32
  ![0, 5, v228.toNat, 0]
def k0_off55 (k0_t2 : Fin k0_t2_loop.trips) : Fin 4 → Nat :=
  let c0_230 : Index := 0#32
  let c6_231 : Index := 6#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v232 : Index := Scalar.indexCast v210
  let c0_232 : Index := 0#32
  ![0, 6, v232.toNat, 0]
def k0_off56 (k0_t2 : Fin k0_t2_loop.trips) : Fin 4 → Nat :=
  let c0_233 : Index := 0#32
  let c7_234 : Index := 7#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v235 : Index := Scalar.indexCast v210
  let c0_235 : Index := 0#32
  ![0, 7, v235.toNat, 0]
def k0_off57 (k0_t2 : Fin k0_t2_loop.trips) : Fin 4 → Nat :=
  let c0_236 : Index := 0#32
  let c8_237 : Index := 8#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v239 : Index := Scalar.indexCast v210
  let c0_238 : Index := 0#32
  ![0, 8, v239.toNat, 0]
def k0_off58 (k0_t2 : Fin k0_t2_loop.trips) : Fin 4 → Nat :=
  let c0_239 : Index := 0#32
  let c9_240 : Index := 9#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v242 : Index := Scalar.indexCast v210
  let c0_241 : Index := 0#32
  ![0, 9, v242.toNat, 0]
def k0_off59 (k0_t2 : Fin k0_t2_loop.trips) : Fin 4 → Nat :=
  let c0_242 : Index := 0#32
  let c10_243 : Index := 10#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v246 : Index := Scalar.indexCast v210
  let c0_244 : Index := 0#32
  ![0, 10, v246.toNat, 0]
def k0_off60 (k0_t2 : Fin k0_t2_loop.trips) : Fin 4 → Nat :=
  let c0_245 : Index := 0#32
  let c11_246 : Index := 11#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v249 : Index := Scalar.indexCast v210
  let c0_247 : Index := 0#32
  ![0, 11, v249.toNat, 0]
def k0_off61 (k0_t2 : Fin k0_t2_loop.trips) : Fin 4 → Nat :=
  let c0_248 : Index := 0#32
  let c12_249 : Index := 12#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v253 : Index := Scalar.indexCast v210
  let c0_250 : Index := 0#32
  ![0, 12, v253.toNat, 0]
def k0_off62 (k0_t2 : Fin k0_t2_loop.trips) : Fin 4 → Nat :=
  let c0_251 : Index := 0#32
  let c13_252 : Index := 13#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v256 : Index := Scalar.indexCast v210
  let c0_253 : Index := 0#32
  ![0, 13, v256.toNat, 0]
def k0_off63 (k0_t2 : Fin k0_t2_loop.trips) : Fin 4 → Nat :=
  let c0_254 : Index := 0#32
  let c14_255 : Index := 14#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v260 : Index := Scalar.indexCast v210
  let c0_256 : Index := 0#32
  ![0, 14, v260.toNat, 0]
def k0_off64 (k0_t2 : Fin k0_t2_loop.trips) : Fin 4 → Nat :=
  let c0_257 : Index := 0#32
  let c15_258 : Index := 15#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v263 : Index := Scalar.indexCast v210
  let c0_259 : Index := 0#32
  ![0, 15, v263.toNat, 0]
def k0_off65 (k0_t2 : Fin k0_t2_loop.trips) : Fin 4 → Nat :=
  let c0_260 : Index := 0#32
  let c16_261 : Index := 16#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v267 : Index := Scalar.indexCast v210
  let c0_262 : Index := 0#32
  ![0, 16, v267.toNat, 0]
def k0_off66 (k0_t2 : Fin k0_t2_loop.trips) : Fin 4 → Nat :=
  let c0_263 : Index := 0#32
  let c17_264 : Index := 17#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v270 : Index := Scalar.indexCast v210
  let c0_265 : Index := 0#32
  ![0, 17, v270.toNat, 0]
def k0_off67 (k0_t2 : Fin k0_t2_loop.trips) : Fin 4 → Nat :=
  let c0_266 : Index := 0#32
  let c18_267 : Index := 18#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v274 : Index := Scalar.indexCast v210
  let c0_268 : Index := 0#32
  ![0, 18, v274.toNat, 0]
def k0_off68 (k0_t2 : Fin k0_t2_loop.trips) : Fin 4 → Nat :=
  let c0_269 : Index := 0#32
  let c19_270 : Index := 19#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v277 : Index := Scalar.indexCast v210
  let c0_271 : Index := 0#32
  ![0, 19, v277.toNat, 0]
def k0_off69 (k0_t2 : Fin k0_t2_loop.trips) : Fin 4 → Nat :=
  let c0_272 : Index := 0#32
  let c20_273 : Index := 20#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v281 : Index := Scalar.indexCast v210
  let c0_274 : Index := 0#32
  ![0, 20, v281.toNat, 0]
def k0_off70 (k0_t2 : Fin k0_t2_loop.trips) : Fin 4 → Nat :=
  let c0_275 : Index := 0#32
  let c21_276 : Index := 21#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v284 : Index := Scalar.indexCast v210
  let c0_277 : Index := 0#32
  ![0, 21, v284.toNat, 0]
def k0_off71 (k0_t2 : Fin k0_t2_loop.trips) : Fin 4 → Nat :=
  let c0_278 : Index := 0#32
  let c22_279 : Index := 22#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v288 : Index := Scalar.indexCast v210
  let c0_280 : Index := 0#32
  ![0, 22, v288.toNat, 0]
def k0_off72 (k0_t2 : Fin k0_t2_loop.trips) : Fin 4 → Nat :=
  let c0_281 : Index := 0#32
  let c23_282 : Index := 23#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v291 : Index := Scalar.indexCast v210
  let c0_283 : Index := 0#32
  ![0, 23, v291.toNat, 0]
def k0_off73 (k0_t2 : Fin k0_t2_loop.trips) : Fin 4 → Nat :=
  let c0_284 : Index := 0#32
  let c24_285 : Index := 24#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v295 : Index := Scalar.indexCast v210
  let c0_286 : Index := 0#32
  ![0, 24, v295.toNat, 0]
def k0_off74 (k0_t2 : Fin k0_t2_loop.trips) : Fin 4 → Nat :=
  let c0_287 : Index := 0#32
  let c25_288 : Index := 25#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v298 : Index := Scalar.indexCast v210
  let c0_289 : Index := 0#32
  ![0, 25, v298.toNat, 0]
def k0_off75 (k0_t2 : Fin k0_t2_loop.trips) : Fin 4 → Nat :=
  let c0_290 : Index := 0#32
  let c26_291 : Index := 26#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v302 : Index := Scalar.indexCast v210
  let c0_292 : Index := 0#32
  ![0, 26, v302.toNat, 0]
def k0_off76 (k0_t2 : Fin k0_t2_loop.trips) : Fin 4 → Nat :=
  let c0_293 : Index := 0#32
  let c27_294 : Index := 27#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v305 : Index := Scalar.indexCast v210
  let c0_295 : Index := 0#32
  ![0, 27, v305.toNat, 0]
def k0_off77 (k0_t2 : Fin k0_t2_loop.trips) : Fin 4 → Nat :=
  let c0_296 : Index := 0#32
  let c28_297 : Index := 28#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v309 : Index := Scalar.indexCast v210
  let c0_298 : Index := 0#32
  ![0, 28, v309.toNat, 0]
def k0_off78 (k0_t2 : Fin k0_t2_loop.trips) : Fin 4 → Nat :=
  let c0_299 : Index := 0#32
  let c29_300 : Index := 29#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v312 : Index := Scalar.indexCast v210
  let c0_301 : Index := 0#32
  ![0, 29, v312.toNat, 0]
def k0_off79 (k0_t2 : Fin k0_t2_loop.trips) : Fin 4 → Nat :=
  let c0_302 : Index := 0#32
  let c30_303 : Index := 30#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v316 : Index := Scalar.indexCast v210
  let c0_304 : Index := 0#32
  ![0, 30, v316.toNat, 0]
def k0_off80 (k0_t2 : Fin k0_t2_loop.trips) : Fin 4 → Nat :=
  let c0_305 : Index := 0#32
  let c31_306 : Index := 31#32
  let c0_i32_208 : BitVec 32 := 0#32
  let c1_i32_210 : BitVec 32 := 1#32
  let arg6 : BitVec 32 := Scf.iv c0_i32_208 c1_i32_210 k0_t2
  let c16_i32 : BitVec 32 := 16#32
  let v210 : BitVec 32 := Scalar.muli arg6 c16_i32
  let v319 : Index := Scalar.indexCast v210
  let c0_307 : Index := 0#32
  ![0, 31, v319.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x32x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x32x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x32x4096x128 : Shape := ⟨4, ![4, 32, 4096, 128]⟩
abbrev S32x128x128 : Shape := ⟨3, ![32, 128, 128]⟩
abbrev S128 : Shape := ⟨1, ![128]⟩
abbrev S32x32 : Shape := ⟨2, ![32, 32]⟩
abbrev S_ : Shape := ⟨0, ![]⟩
abbrev S32x4x4096x128 : Shape := ⟨4, ![32, 4, 4096, 128]⟩
abbrev S32x128x4x4096 : Shape := ⟨4, ![32, 128, 4, 4096]⟩
abbrev S1x1x1x128 : Shape := ⟨4, ![1, 1, 1, 128]⟩

abbrev nBuf : Space → Nat
  | .hbm => 17
  | .vmem => 0
  | .smem => 0
  | _ => 0

abbrev bufTy : (tb : Table) → Fin (tcTables nBuf tb) → BufTy
  | .hbm, ⟨0, _⟩ => ⟨S4x32x4096x128, .f32⟩
  | .hbm, ⟨1, _⟩ => ⟨S32x128x128, .f32⟩
  | .hbm, ⟨2, _⟩ => ⟨S128, .f32⟩
  | .hbm, ⟨3, _⟩ => ⟨S32x32, .f32⟩
  | .hbm, ⟨4, _⟩ => ⟨S_, .f32⟩
  | .hbm, ⟨5, _⟩ => ⟨S_, .f32⟩
  | .hbm, ⟨6, _⟩ => ⟨S32x32, .f32⟩
  | .hbm, ⟨7, _⟩ => ⟨S32x32, .f32⟩
  | .hbm, ⟨8, _⟩ => ⟨S32x4x4096x128, .f32⟩
  | .hbm, ⟨9, _⟩ => ⟨S4x32x4096x128, .f32⟩
  | .hbm, ⟨10, _⟩ => ⟨S32x128x4x4096, .f32⟩
  | .hbm, ⟨11, _⟩ => ⟨S4x32x4096x128, .f32⟩
  | .hbm, ⟨12, _⟩ => ⟨S32x4x4096x128, .f32⟩
  | .hbm, ⟨13, _⟩ => ⟨S4x32x4096x128, .f32⟩
  | .hbm, ⟨14, _⟩ => ⟨S1x1x1x128, .f32⟩
  | .hbm, ⟨15, _⟩ => ⟨S4x32x4096x128, .f32⟩
  | .hbm, ⟨16, _⟩ => ⟨S4x32x4096x128, .f32⟩
  | _, _ => ⟨S4x32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Transform.lean ====
module

public import Idealize.ShloMosaic.PureOps.Ideal

@[expose] public section

noncomputable section

namespace Cert.KernelIdeal.Val

/-- One stage of the fast transform: entries `p` and `p + b` become their sum and their difference. -/
def st (b : ℕ) (v : ℕ → EReal) : ℕ → EReal := fun p =>
  if p / b % 2 = 0 then v p + v (p + b) else v (p - b) - v p

/-- The fast transform of sixteen entries: its four stages, the widest first. -/
def fw (v : ℕ → EReal) : ℕ → EReal := st 1 (st 2 (st 4 (st 8 v)))

end Cert.KernelIdeal.Val

end
-- ==== Proof.FirstLoop.lean ====
module

public import proofs.«01_k».proof.Proof.Transform
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Idealize.ShloMosaic Idealize.ShloMosaic.TcCoe Idealize.ShloMosaic.Tactic
open Cert.KernelIdeal.Gen

/-- Row `r` of the heads `2 q` and `2 q + 1` laid side by side, at lane `l`. -/
def pairX (X : Vec Ideal S1x32x512x128 .f32) (r : Fin 512) (l : Fin 256) (q : ℕ) : EReal :=
  if h : l.val < 128 then X (ix4 0 ⟨2 * q % 32, Nat.mod_lt _ (by decide)⟩ r ⟨l.val, h⟩)
  else X (ix4 0 ⟨(2 * q + 1) % 32, Nat.mod_lt _ (by decide)⟩ r ⟨l.val - 128, by omega⟩)

/-- The contents of the scratch after the first loop, from the block of `x`. -/
def U (X : Vec Ideal S1x32x512x128 .f32) : Vec Ideal S16x512x256 .bf16 := fun y =>
  fw (pairX X (y 1) (y 2)) (y 0).val

/-- The scratch's contents at an index given by its coordinates. -/
theorem U_ix (X : Vec Ideal S1x32x512x128 .f32) (p : Fin 16) (r : Fin 512) (l : Fin 256) :
    U X (ix3 p r l) = fw (pairX X r l) p.val := rfl

/-- The first loop makes at most 32 trips. -/
theorem trips1 (k : Fin k0_t1_loop.trips) : k.val < 32 := Nat.lt_of_lt_of_le k.isLt k0_t1_abs.2.1

/-- Where trip `k`'s store into pair `p` places an index: sixteen rows from row `16 k`. -/
theorem emb_row (off : Fin 3 → ℕ) (p k : ℕ) (h : off = ![p, 16 * k, 0])
    (inb : ∀ a, off a + S1x16x256.size a ≤ S16x512x256.size a) (hp : p < 16) (hk : k < 32)
    (a : Fin 1) (r : Fin 16) (l : Fin 256) :
    (Rect.unit (s := S16x512x256) off S1x16x256.size inb).emb (ix3 a r l)
      = ix3 ⟨p, hp⟩ ⟨16 * k + r.val, by omega⟩ l := by
  subst h
  blk_ext

set_option maxHeartbeats 4000000 in
/-- Every store of one trip of the first loop is a block of `U`. -/
theorem trip1_piecesOf (𝒱 : Variants) (c : Dev nD) (bd : Option 𝒱.V) (i : grid0.Coords) (arg2 : Memref sig .tc .vmem S1x32x512x128 .f32) (harg2 : arg2.IsWhole) (arg3 : Memref sig .tc .vmem S16x256x256 .bf16) (harg3 : arg3.IsWhole) (arg4 : Memref sig .tc .vmem S1x32x512x128 .f32) (harg4 : arg4.IsWhole) (arg5 : Memref sig .tc .vmem S16x512x256 .bf16) (harg5 : arg5.IsWhole)
    (X : Vec Ideal S1x32x512x128 .f32) (k : Fin k0_t1_loop.trips) :
    View.PiecesOf (U X) (tripL_k0_t1 (F := Ideal) 𝒱 c bd i arg2 harg2 arg3 harg3 arg4 harg4 arg5 harg5 (harg2.unread X) k) := by
  have hk := trips1 k
  unfold tripL_k0_t1 trip_k0_t1
  refine ⟨?_, ?_, ?_, ?_, ?_, ?_, ?_, ?_, ?_, ?_, ?_, ?_, ?_, ?_, ?_, ?_, trivial⟩
  all_goals
    intro y
    idx_vars y
    first
      | rw [emb_row _ _ _ (k0_off33_eq k) _ (by decide) hk]
      | rw [emb_row _ _ _ (k0_off34_eq k) _ (by decide) hk]
      | rw [emb_row _ _ _ (k0_off35_eq k) _ (by decide) hk]
      | rw [emb_row _ _ _ (k0_off36_eq k) _ (by decide) hk]
      | rw [emb_row _ _ _ (k0_off37_eq k) _ (by decide) hk]
      | rw [emb_row _ _ _ (k0_off38_eq k) _ (by decide) hk]
      | rw [emb_row _ _ _ (k0_off39_eq k) _ (by decide) hk]
      | rw [emb_row _ _ _ (k0_off40_eq k) _ (by decide) hk]
      | rw [emb_row _ _ _ (k0_off41_eq k) _ (by decide) hk]
      | rw [emb_row _ _ _ (k0_off42_eq k) _ (by decide) hk]
      | rw [emb_row _ _ _ (k0_off43_eq k) _ (by decide) hk]
      | rw [emb_row _ _ _ (k0_off44_eq k) _ (by decide) hk]
      | rw [emb_row _ _ _ (k0_off45_eq k) _ (by decide) hk]
      | rw [emb_row _ _ _ (k0_off46_eq k) _ (by decide) hk]
      | rw [emb_row _ _ _ (k0_off47_eq k) _ (by decide) hk]
      | rw [emb_row _ _ _ (k0_off48_eq k) _ (by decide) hk]
    sl_unfold_run_names
    unfold_payloads
    simp only [View.readAt_eq_ld]
    pointwise [U_ix]
    simp only [harg2.read_unread, k0_off1_eq, k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, Matrix.cons_val, pairX,
      fw, st, Nat.reduceDiv, Nat.reduceMod, Nat.reduceAdd, Nat.reduceSub, Nat.reduceMul, Nat.zero_div, Nat.zero_mod, Nat.zero_add, reduceIte, OfNat.ofNat_ne_zero, one_ne_zero]
    try rfl

/-- So is every store of the trips before any trip. -/
theorem before1_pieces (𝒱 : Variants) (c : Dev nD) (bd : Option 𝒱.V) (i : grid0.Coords) (arg2 : Memref sig .tc .vmem S1x32x512x128 .f32) (harg2 : arg2.IsWhole) (arg3 : Memref sig .tc .vmem S16x256x256 .bf16) (harg3 : arg3.IsWhole) (arg4 : Memref sig .tc .vmem S1x32x512x128 .f32) (harg4 : arg4.IsWhole) (arg5 : Memref sig .tc .vmem S16x512x256 .bf16) (harg5 : arg5.IsWhole)
    (X : Vec Ideal S1x32x512x128 .f32) : ∀ n ≤ k0_t1_loop.trips,
    ∀ p ∈ pb_k0_t1 (F := Ideal) 𝒱 c bd i arg2 harg2 arg3 harg3 arg4 harg4 arg5 harg5 (harg2.unread X) n,
      ∀ x : p.1.shape.Idx, p.2 x = U X (p.1.emb x)
  | 0, _, p, hp => absurd hp List.not_mem_nil
  | n + 1, hn, p, hp => by
    have e := pb_k0_t1_succ (F := Ideal) 𝒱 c bd i arg2 harg2 arg3 harg3 arg4 harg4 arg5 harg5 (harg2.unread X) ⟨n, hn⟩
    rw [show n + 1 = (⟨n, hn⟩ : Fin k0_t1_loop.trips).val + 1 from rfl, e] at hp
    rcases List.mem_append.mp hp with h | h
    · exact (trip1_piecesOf 𝒱 c bd i arg2 harg2 arg3 harg3 arg4 harg4 arg5 harg5 X ⟨n, hn⟩).mem p h
    · exact before1_pieces 𝒱 c bd i arg2 harg2 arg3 harg3 arg4 harg4 arg5 harg5 X n (Nat.le_of_succ_le hn) p h

/-- A load from the scratch after the first loop reads `U`. -/
theorem readCov1 (𝒱 : Variants) (c : Dev nD) (bd : Option 𝒱.V) (i : grid0.Coords) (arg2 : Memref sig .tc .vmem S1x32x512x128 .f32) (harg2 : arg2.IsWhole) (arg3 : Memref sig .tc .vmem S16x256x256 .bf16) (harg3 : arg3.IsWhole) (arg4 : Memref sig .tc .vmem S1x32x512x128 .f32) (harg4 : arg4.IsWhole) (arg5 : Memref sig .tc .vmem S16x512x256 .bf16) (harg5 : arg5.IsWhole)
    (X : Vec Ideal S1x32x512x128 .f32) (B : LoadRect S16x512x256) :
    arg5.view.readCov (pb_k0_t1 (F := Ideal) 𝒱 c bd i arg2 harg2 arg3 harg3 arg4 harg4 arg5 harg5 (harg2.unread X)
      (Scf.trips k0_t1_loop.lb k0_t1_loop.ub k0_t1_loop.st)) B = fun j => U X (B.idx j) := by
  have hc := View.cover_of_tiledL (pb_k0_t1 (F := Ideal) 𝒱 c bd i arg2 harg2 arg3 harg3 arg4 harg4 arg5 harg5 (harg2.unread X)
      (Scf.trips k0_t1_loop.lb k0_t1_loop.ub k0_t1_loop.st)) S1x16x256.size (by sl_kernel_rfl)
  rw [View.readCov_eq_canon']
  funext j
  exact View.canon_apply_of_pieces (U X) _ (before1_pieces 𝒱 c bd i arg2 harg2 arg3 harg3 arg4 harg4 arg5 harg5 X _ (le_of_eq rfl)) _ (hc _)

end Cert.KernelIdeal.Val

end
-- ==== Proof.SecondLoop.lean ====
module

public import proofs.«01_k».proof.Proof.Transform
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Val

open Idealize.ShloMosaic Idealize.ShloMosaic.TcCoe Idealize.ShloMosaic.Tactic
open Cert.KernelIdeal.Gen

/-- The contents of the result after the second loop, from those before it. -/
def T (Z : Vec Ideal S1x32x512x128 .f32) : Vec Ideal S1x32x512x128 .f32 := fun y =>
  fw (fun q => Z (ix4 0 ⟨(2 * q + (y 1).val % 2) % 32, Nat.mod_lt _ (by decide)⟩ (y 2) (y 3))) ((y 1).val / 2)

/-- The same at an index given by its coordinates. -/
theorem T_ix (Z : Vec Ideal S1x32x512x128 .f32) (a : Fin 1) (h : Fin 32) (r : Fin 512) (l : Fin 128) :
    T Z (ix4 a h r l)
      = fw (fun q => Z (ix4 0 ⟨(2 * q + h.val % 2) % 32, Nat.mod_lt _ (by decide)⟩ r l)) (h.val / 2) := rfl

/-- `T` at a row reads its argument at that row only. -/
theorem T_congr (Z Z' : Vec Ideal S1x32x512x128 .f32) (y : S1x32x512x128.Idx)
    (h : ∀ z : S1x32x512x128.Idx, (z 2).val = (y 2).val → Z z = Z' z) : T Z y = T Z' y := by
  unfold T
  congr 1
  funext q
  exact h _ rfl

/-- The second loop makes at most 32 trips. -/
theorem trips2 (k : Fin k0_t2_loop.trips) : k.val < 32 := Nat.lt_of_lt_of_le k.isLt k0_t2_abs.2.1

/-- Where trip `k`'s store into head `h` places an index: sixteen rows from row `16 k`. -/
theorem emb_head (off : Fin 4 → ℕ) (h k : ℕ) (ho : off = ![0, h, 16 * k, 0])
    (inb : ∀ a, off a + S1x1x16x128.size a ≤ S1x32x512x128.size a) (hh : h < 32) (hk : k < 32)
    (a b : Fin 1) (r : Fin 16) (l : Fin 128) :
    (Rect.unit (s := S1x32x512x128) off S1x1x16x128.size inb).emb (ix4 a b r l)
      = ix4 0 ⟨h, hh⟩ ⟨16 * k + r.val, by omega⟩ l := by
  subst ho
  blk_ext

set_option maxHeartbeats 4000000 in
/-- Every store of one trip of the second loop lies in that trip's sixteen rows, and is there a block of `T` of the
    contents that the trip finds. -/
theorem trip2_pieces (𝒱 : Variants) (c : Dev nD) (bd : Option 𝒱.V) (i : grid0.Coords) (arg2 : Memref sig .tc .vmem S1x32x512x128 .f32) (harg2 : arg2.IsWhole) (arg3 : Memref sig .tc .vmem S16x256x256 .bf16) (harg3 : arg3.IsWhole) (arg4 : Memref sig .tc .vmem S1x32x512x128 .f32) (harg4 : arg4.IsWhole) (arg5 : Memref sig .tc .vmem S16x512x256 .bf16) (harg5 : arg5.IsWhole)
    (f : BufTy.Contents (Elt Ideal) arg4.view.ty) (k : Fin k0_t2_loop.trips) :
    List.Forall (fun p => ∀ x,
        (16 * k.val ≤ (p.1.emb x 2).val ∧ (p.1.emb x 2).val < 16 * (k.val + 1))
          ∧ p.2 x = T (arg4.view.read (Elt Ideal) f) (p.1.emb x))
      (tripL_k0_t2 (F := Ideal) 𝒱 c bd i arg2 harg2 arg3 harg3 arg4 harg4 arg5 harg5 k f) := by
  have hk := trips2 k
  unfold tripL_k0_t2 trip_k0_t2
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    intro y
    idx_vars y
    first
      | rw [emb_head _ _ _ (k0_off49_eq k) _ (by decide) hk]
      | rw [emb_head _ _ _ (k0_off50_eq k) _ (by decide) hk]
      | rw [emb_head _ _ _ (k0_off51_eq k) _ (by decide) hk]
      | rw [emb_head _ _ _ (k0_off52_eq k) _ (by decide) hk]
      | rw [emb_head _ _ _ (k0_off53_eq k) _ (by decide) hk]
      | rw [emb_head _ _ _ (k0_off54_eq k) _ (by decide) hk]
      | rw [emb_head _ _ _ (k0_off55_eq k) _ (by decide) hk]
      | rw [emb_head _ _ _ (k0_off56_eq k) _ (by decide) hk]
      | rw [emb_head _ _ _ (k0_off57_eq k) _ (by decide) hk]
      | rw [emb_head _ _ _ (k0_off58_eq k) _ (by decide) hk]
      | rw [emb_head _ _ _ (k0_off59_eq k) _ (by decide) hk]
      | rw [emb_head _ _ _ (k0_off60_eq k) _ (by decide) hk]
      | rw [emb_head _ _ _ (k0_off61_eq k) _ (by decide) hk]
      | rw [emb_head _ _ _ (k0_off62_eq k) _ (by decide) hk]
      | rw [emb_head _ _ _ (k0_off63_eq k) _ (by decide) hk]
      | rw [emb_head _ _ _ (k0_off64_eq k) _ (by decide) hk]
      | rw [emb_head _ _ _ (k0_off65_eq k) _ (by decide) hk]
      | rw [emb_head _ _ _ (k0_off66_eq k) _ (by decide) hk]
      | rw [emb_head _ _ _ (k0_off67_eq k) _ (by decide) hk]
      | rw [emb_head _ _ _ (k0_off68_eq k) _ (by decide) hk]
      | rw [emb_head _ _ _ (k0_off69_eq k) _ (by decide) hk]
      | rw [emb_head _ _ _ (k0_off70_eq k) _ (by decide) hk]
      | rw [emb_head _ _ _ (k0_off71_eq k) _ (by decide) hk]
      | rw [emb_head _ _ _ (k0_off72_eq k) _ (by decide) hk]
      | rw [emb_head _ _ _ (k0_off73_eq k) _ (by decide) hk]
      | rw [emb_head _ _ _ (k0_off74_eq k) _ (by decide) hk]
      | rw [emb_head _ _ _ (k0_off75_eq k) _ (by decide) hk]
      | rw [emb_head _ _ _ (k0_off76_eq k) _ (by decide) hk]
      | rw [emb_head _ _ _ (k0_off77_eq k) _ (by decide) hk]
      | rw [emb_head _ _ _ (k0_off78_eq k) _ (by decide) hk]
      | rw [emb_head _ _ _ (k0_off79_eq k) _ (by decide) hk]
      | rw [emb_head _ _ _ (k0_off80_eq k) _ (by decide) hk]
    refine ⟨⟨by pointwise, by pointwise; omega⟩, ?_⟩
    have hl : ¬ (128 + y3.val < 128) := by omega
    sl_unfold_run_names
    unfold_payloads
    simp only [View.readAt_eq_ld]
    pointwise [T_ix]
    simp only [k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, Matrix.cons_val, y3.isLt, hl, Nat.add_sub_cancel_left,
      fw, st, Nat.reduceDiv, Nat.reduceMod, Nat.reduceAdd, Nat.reduceSub, Nat.reduceMul, Nat.zero_div, Nat.zero_mod, Nat.zero_add, reduceIte, OfNat.ofNat_ne_zero, one_ne_zero]
    try rfl

/-- The stores of the trips before trip `n` lie in the first `16 n` rows, and are blocks of `T` of the contents at
    the loop's entry: a trip finds its own rows as they were then. -/
theorem before2_pieces (𝒱 : Variants) (c : Dev nD) (bd : Option 𝒱.V) (i : grid0.Coords) (arg2 : Memref sig .tc .vmem S1x32x512x128 .f32) (harg2 : arg2.IsWhole) (arg3 : Memref sig .tc .vmem S16x256x256 .bf16) (harg3 : arg3.IsWhole) (arg4 : Memref sig .tc .vmem S1x32x512x128 .f32) (harg4 : arg4.IsWhole) (arg5 : Memref sig .tc .vmem S16x512x256 .bf16) (harg5 : arg5.IsWhole)
    (f : BufTy.Contents (Elt Ideal) arg4.view.ty) : ∀ n ≤ k0_t2_loop.trips,
    ∀ p ∈ pb_k0_t2 (F := Ideal) 𝒱 c bd i arg2 harg2 arg3 harg3 arg4 harg4 arg5 harg5 f n,
      ∀ x : p.1.shape.Idx, (p.1.emb x 2).val < 16 * n ∧ p.2 x = T (arg4.view.read (Elt Ideal) f) (p.1.emb x)
  | 0, _, p, hp => absurd hp List.not_mem_nil
  | n + 1, hn, p, hp => fun x => by
    have ih := before2_pieces 𝒱 c bd i arg2 harg2 arg3 harg3 arg4 harg4 arg5 harg5 f n (Nat.le_of_succ_le hn)
    have e := pb_k0_t2_succ (F := Ideal) 𝒱 c bd i arg2 harg2 arg3 harg3 arg4 harg4 arg5 harg5 f ⟨n, hn⟩
    rw [show n + 1 = (⟨n, hn⟩ : Fin k0_t2_loop.trips).val + 1 from rfl, e] at hp
    rcases List.mem_append.mp hp with h | h
    · obtain ⟨⟨h1, h2⟩, h3⟩ := List.forall_iff_forall_mem.mp (trip2_pieces 𝒱 c bd i arg2 harg2 arg3 harg3 arg4 harg4 arg5 harg5 _ ⟨n, hn⟩) p h x
      refine ⟨h2, h3.trans (T_congr _ _ _ fun z hz => ?_)⟩
      refine View.read_writes_apply_of_forall_not_mem _ _ z _ fun p' hp' hm => ?_
      obtain ⟨x', rfl⟩ := p'.1.exists_idx_of_mem hm
      have h4 := (ih p' hp' x').1
      have h5 : (p'.1.emb x' 2).val = (p.1.emb x 2).val := hz
      have h6 : 16 * n ≤ (p.1.emb x 2).val := h1
      omega
    · obtain ⟨h1, h2⟩ := ih p h x
      exact ⟨by omega, h2⟩

/-- After the second loop the result reads `T` of what it held at the loop's entry. -/
theorem read_after2 (𝒱 : Variants) (c : Dev nD) (bd : Option 𝒱.V) (i : grid0.Coords) (arg2 : Memref sig .tc .vmem S1x32x512x128 .f32) (harg2 : arg2.IsWhole) (arg3 : Memref sig .tc .vmem S16x256x256 .bf16) (harg3 : arg3.IsWhole) (arg4 : Memref sig .tc .vmem S1x32x512x128 .f32) (harg4 : arg4.IsWhole) (arg5 : Memref sig .tc .vmem S16x512x256 .bf16) (harg5 : arg5.IsWhole)
    (f g : BufTy.Contents (Elt Ideal) arg4.view.ty) :
    arg4.view.read (Elt Ideal) (arg4.view.writes (Elt Ideal) g (pb_k0_t2 (F := Ideal) 𝒱 c bd i arg2 harg2 arg3 harg3 arg4 harg4 arg5 harg5 f
      (Scf.trips k0_t2_loop.lb k0_t2_loop.ub k0_t2_loop.st))) = T (arg4.view.read (Elt Ideal) f) := by
  have hc := View.cover_of_tiledL (pb_k0_t2 (F := Ideal) 𝒱 c bd i arg2 harg2 arg3 harg3 arg4 harg4 arg5 harg5 f
      (Scf.trips k0_t2_loop.lb k0_t2_loop.ub k0_t2_loop.st)) S1x1x16x128.size (by sl_kernel_rfl)
  funext y
  exact View.read_writes_apply_of_pieces _ _ _ _
    (fun p hp x => (before2_pieces 𝒱 c bd i arg2 harg2 arg3 harg3 arg4 harg4 arg5 harg5 f _ (le_of_eq rfl) p hp x).2) y (hc y)

end Cert.KernelIdeal.Val

end
-- ==== Proof.Body.lean ====
module

public import proofs.«01_k».proof.Proof.FirstLoop
public import proofs.«01_k».proof.Proof.SecondLoop

@[expose] public section

set_option maxRecDepth 16384

noncomputable section

namespace Cert.KernelIdeal.Val

open Idealize.ShloMosaic Idealize.ShloMosaic.TcCoe Idealize.ShloMosaic.Tactic
open Cert.KernelIdeal.Gen

/-- The products between the loops: head `2 p + s` takes columns `128 s` and on of pair `p` times its matrix. -/
def M (V : Vec Ideal S16x512x256 .bf16) (W : Vec Ideal S16x256x256 .bf16) : Vec Ideal S1x32x512x128 .f32 := fun y =>
  ∑ l : Fin 256, V (ix3 ⟨(y 1).val / 2 % 16, Nat.mod_lt _ (by decide)⟩ (y 2) l)
    * W (ix3 ⟨(y 1).val / 2 % 16, Nat.mod_lt _ (by decide)⟩ l ⟨(128 * ((y 1).val % 2) + (y 3).val) % 256, Nat.mod_lt _ (by decide)⟩)

/-- The same at an index given by its coordinates. -/
theorem M_ix (V : Vec Ideal S16x512x256 .bf16) (W : Vec Ideal S16x256x256 .bf16) (a : Fin 1) (h : Fin 32) (r : Fin 512)
    (d : Fin 128) :
    M V W (ix4 a h r d) = ∑ l : Fin 256, V (ix3 ⟨h.val / 2 % 16, Nat.mod_lt _ (by decide)⟩ r l)
      * W (ix3 ⟨h.val / 2 % 16, Nat.mod_lt _ (by decide)⟩ l ⟨(128 * (h.val % 2) + d.val) % 256, Nat.mod_lt _ (by decide)⟩) := rfl

/-- Where a store into the whole of head `h` places an index. -/
theorem emb_whole_head (h : ℕ) (inb : ∀ a, (![0, h, 0, 0] : Fin 4 → ℕ) a + S1x1x512x128.size a ≤ S1x32x512x128.size a)
    (hh : h < 32) (a b : Fin 1) (r : Fin 512) (l : Fin 128) :
    (Rect.unit (s := S1x32x512x128) ![0, h, 0, 0] S1x1x512x128.size inb).emb (ix4 a b r l) = ix4 0 ⟨h, hh⟩ r l := by
  blk_ext

/-- Which element a load of the whole of pair `p` reads. -/
theorem idx_pair (p : ℕ) (inb : ∀ a, (![p, 0, 0] : Fin 3 → ℕ) a + S1x512x256.size a ≤ S16x512x256.size a) (hp : p < 16)
    (r : Fin 512) (l : Fin 256) :
    (Rect.unit (s := S16x512x256) ![p, 0, 0] S1x512x256.size inb).toLoadRect.idx (ix3 0 r l) = ix3 ⟨p, hp⟩ r l := by
  show (Rect.unit (s := S16x512x256) ![p, 0, 0] S1x512x256.size inb).emb (ix3 0 r l) = _
  blk_ext

set_option maxHeartbeats 4000000 in
/-- Every store between the loops is a block of the products. -/
theorem between_piecesOf (c : Dev nD) (i : grid0.Coords) (arg2 : Memref sig .tc .vmem S1x32x512x128 .f32) (harg2 : arg2.IsWhole) (arg3 : Memref sig .tc .vmem S16x256x256 .bf16) (harg3 : arg3.IsWhole) (arg4 : Memref sig .tc .vmem S1x32x512x128 .f32) (harg4 : arg4.IsWhole) (arg5 : Memref sig .tc .vmem S16x512x256 .bf16) (harg5 : arg5.IsWhole)
    (X : Vec Ideal S1x32x512x128 .f32) (W : Vec Ideal S16x256x256 .bf16) :
    View.PiecesOf (M (U X) W) (kernelRun0_A.sl.H2_32 (F := Ideal) c i arg2 harg2 arg3 harg3 arg4 harg4 arg5 harg5 X W) := by
  unfold kernelRun0_A.sl.H2_32
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, trivial⟩
  all_goals
    intro y
    idx_vars y
    rw [emb_whole_head _ _ (by decide)]
    sl_unfold_run_names
    unfold_payloads
    simp only [View.readAt_eq_ld, harg3.read_unread]
    pointwise [M_ix]
    refine Finset.sum_congr rfl fun l _ => ?_
    refine Ideal.mul_congr ((congrFun (readCov1 Variants.none c none i arg2 harg2 arg3 harg3 arg4 harg4 arg5 harg5 X _)
      _).trans (congrArg (U X) ?_)) (congrArg W ?_)
    · exact idx_pair _ _ (by decide) _ _
    · blk_ext

/-- What one grid point leaves in its block of the result, from its block of `x` and the pair matrices. -/
theorem out_eq (c : Dev nD) (i : grid0.Coords) (arg2 : Memref sig .tc .vmem S1x32x512x128 .f32) (harg2 : arg2.IsWhole) (arg3 : Memref sig .tc .vmem S16x256x256 .bf16) (harg3 : arg3.IsWhole) (arg4 : Memref sig .tc .vmem S1x32x512x128 .f32) (harg4 : arg4.IsWhole) (arg5 : Memref sig .tc .vmem S16x512x256 .bf16) (harg5 : arg5.IsWhole)
    (X : Vec Ideal S1x32x512x128 .f32) (W : Vec Ideal S16x256x256 .bf16) :
    out0_A_2 (F := Ideal) c i arg2 harg2 arg3 harg3 arg4 harg4 arg5 harg5 X W = T (M (U X) W) := by
  have hM : arg4.view.read (Elt Ideal) (arg4.view.writes (Elt Ideal) arg4.view.junk
      (kernelRun0_A.sl.H2_32 (F := Ideal) c i arg2 harg2 arg3 harg3 arg4 harg4 arg5 harg5 X W)) = M (U X) W := by
    have hc := View.cover_of_tiledL (kernelRun0_A.sl.H2_32 (F := Ideal) c i arg2 harg2 arg3 harg3 arg4 harg4 arg5 harg5 X W) S1x1x512x128.size (by sl_kernel_rfl)
    funext y
    exact View.read_writes_apply_of_pieces _ _ _ _ (between_piecesOf c i arg2 harg2 arg3 harg3 arg4 harg4 arg5 harg5 X W).mem y (hc y)
  rw [← hM]
  have h2 := read_after2 Variants.none c none i arg2 harg2 arg3 harg3 arg4 harg4 arg5 harg5 (arg4.view.writes (Elt Ideal) arg4.view.junk
      (kernelRun0_A.sl.H2_32 (F := Ideal) c i arg2 harg2 arg3 harg3 arg4 harg4 arg5 harg5 X W)) (arg4.view.writes (Elt Ideal) arg4.view.junk
      (kernelRun0_A.sl.H2_32 (F := Ideal) c i arg2 harg2 arg3 harg3 arg4 harg4 arg5 harg5 X W))
  rw [← h2, ← View.writes_append]
  unfold out0_A_2
  exact View.read_writes_of_cover _ _ _ _ _ (cover0_A_2 c i arg2 harg2 arg3 harg3 arg4 harg4 arg5 harg5 X W)

end Cert.KernelIdeal.Val

end
-- ==== Proof.Array.lean ====
module

public import proofs.«01_k».proof.Proof.Body
public import proofs.«01_k».proof.Proof.Gen.KernelIdeal.Value

@[expose] public section

set_option maxRecDepth 16384

noncomputable section

namespace Cert.KernelIdeal.Val

open Idealize.ShloMosaic Idealize.ShloMosaic.TcCoe Idealize.ShloMosaic.Tactic
open Cert.KernelIdeal.Gen

/-- The 512 rows of batch `b` from row `512 j` on, all heads: the block of the input at one grid point. -/
def slab (x : Vec Ideal S4x32x4096x128 .f32) (b : Fin 4) (j : Fin 8) : Vec Ideal S1x32x512x128 .f32 := fun z =>
  x (ix4 b (z 1) ⟨512 * j.val + (z 2).val, by have := (z 2).isLt; have := j.isLt; simp at *; omega⟩ (z 3))

/-- The array the region leaves: at every index, the value of the body on the block around it. -/
def G (x : Vec Ideal S4x32x4096x128 .f32) (w : Vec Ideal S16x256x256 .bf16) : Vec Ideal S4x32x4096x128 .f32 := fun y =>
  T (M (U (slab x (y 0) ⟨(y 2).val / 512, by have := (y 2).isLt; simp at *; omega⟩)) w)
    (ix4 0 (y 1) ⟨(y 2).val % 512, Nat.mod_lt _ (by decide)⟩ (y 3))

/-- The grid's index maps in closed form. -/
theorem index0 : ∀ t : Fin cfg0.N, win0_0.index t = ![(grid0.coords t 0).val, 0, (grid0.coords t 1).val, 0] :=
  (by decide +kernel : ∀ t : Fin grid0.N, win0_0.index t = ![(grid0.coords t 0).val, 0, (grid0.coords t 1).val, 0])

/-- The output's index map in closed form. -/
theorem index2 : ∀ t : Fin cfg0.N, win0_2.index t = ![(grid0.coords t 0).val, 0, (grid0.coords t 1).val, 0] :=
  (by decide +kernel : ∀ t : Fin grid0.N, win0_2.index t = ![(grid0.coords t 0).val, 0, (grid0.coords t 1).val, 0])

/-- The weights' window is the whole array at every point. -/
theorem index1 : ∀ t : Fin cfg0.N, win0_1.index t = ![0, 0, 0] :=
  (by decide +kernel : ∀ t : Fin grid0.N, win0_1.index t = ![0, 0, 0])

/-- Where an element of the input's block lies in the input. -/
theorem emb0 (t : Fin cfg0.N) (z0 : Fin 1) (z1 : Fin 32) (z2 : Fin 512) (z3 : Fin 128) (a : Fin 4) :
    ((win0_0.blk t).view.emb (ix4 z0 z1 z2 z3 : S1x32x512x128.Idx) a : ℕ)
      = ![(grid0.coords t 0).val, z1.val, 512 * (grid0.coords t 1).val + z2.val, z3.val] a := by
  fin_cases a <;> blk_simp [index0] <;> simp <;> omega

/-- The same of the output. -/
theorem emb2 (t : Fin cfg0.N) (z0 : Fin 1) (z1 : Fin 32) (z2 : Fin 512) (z3 : Fin 128) (a : Fin 4) :
    ((win0_2.blk t).view.emb (ix4 z0 z1 z2 z3 : S1x32x512x128.Idx) a : ℕ)
      = ![(grid0.coords t 0).val, z1.val, 512 * (grid0.coords t 1).val + z2.val, z3.val] a := by
  fin_cases a <;> blk_simp [index2] <;> simp <;> omega

/-- An element of the weights' block has its own place in the weights. -/
theorem emb1 (t : Fin cfg0.N) (z : S16x256x256.Idx) (a : Fin 3) :
    ((win0_1.blk t).view.emb z a : ℕ) = (z a).val := by
  fin_cases a <;> blk_simp [index1] <;> simp

/-- The input block at a point. -/
theorem iblk0_eq (m : (ℓ : Loc nD τ sig) → Buf (Elt Ideal) ℓ) (c : Dev nD) (t : Fin cfg0.N) :
    (iblk m c 0 t : Vec Ideal S1x32x512x128 .f32)
      = slab (m ((c : Thread nD τ).loc main_arg0)) (grid0.coords t 0) (grid0.coords t 1) := by
  funext z
  idx_vars z
  blk_simp [iblk]
  rw [V_main_arg0]
  unfold slab
  congr 1
  funext a
  apply Fin.ext
  refine (emb0 t z0 z1 z2 z3 a).trans ?_
  fin_cases a <;> rfl

/-- The weights' block at a point. -/
theorem iblk1_eq (m : (ℓ : Loc nD τ sig) → Buf (Elt Ideal) ℓ) (c : Dev nD) (t : Fin cfg0.N) :
    (iblk m c 1 t : Vec Ideal S16x256x256 .bf16) = V m c main_v13 := by
  funext z
  blk_simp [iblk]
  congr 1
  funext a
  exact Fin.ext (emb1 t z a)

/-- The output array after the region. -/
theorem arr_eq (m : (ℓ : Loc nD τ sig) → Buf (Elt Ideal) ℓ) (c : Dev nD) :
    (dats m 0 c).arrAt 2 cfg0.N = G (m ((c : Thread nD τ).loc main_arg0)) (V m c main_v13) := by
  refine (dats m 0 c).arrAt_eq_of_covers 2 _ (by decide +kernel) fun t hf y => ?_
  blk_simp
  rw [after0_2]
  unfold outsAt0
  rw [out_eq, iblk0_eq, iblk1_eq]
  idx_vars y
  have hj : (grid0.coords t 1).val < 8 := (grid0.coords t 1).isLt
  have e : ((win0_2.blk t).view.emb (ix4 y0 y1 y2 y3 : S1x32x512x128.Idx) : S4x32x4096x128.Idx)
      = ix4 (grid0.coords t 0) y1 ⟨512 * (grid0.coords t 1).val + y2.val, by omega⟩ y3 := by
    funext a
    apply Fin.ext
    refine (emb2 t y0 y1 y2 y3 a).trans ?_
    fin_cases a <;> rfl
  refine Eq.trans ?_ (congrArg (G _ _) e).symm
  rw [Subsingleton.elim y0 0]
  have hd : (⟨(512 * (grid0.coords t 1).val + y2.val) / 512, by omega⟩ : Fin 8) = grid0.coords t 1 := Fin.ext (by simp; omega)
  have hr : (⟨(512 * (grid0.coords t 1).val + y2.val) % 512, Nat.mod_lt _ (by decide)⟩ : Fin 512) = y2 := Fin.ext (by simp)
  show _ = T (M (U (slab _ (grid0.coords t 0) ⟨(512 * (grid0.coords t 1).val + y2.val) / 512, _⟩)) _)
    (ix4 0 y1 ⟨(512 * (grid0.coords t 1).val + y2.val) % 512, _⟩ y3)
  rw [hd, hr]

end Cert.KernelIdeal.Val
-- ==== Proof.Signs.lean ====
module

public import proofs.«01_k».proof.Proof.Transform
public import Mathlib.Tactic.Ring
public import Mathlib.Tactic.FinCases
public import Mathlib.Algebra.BigOperators.Fin

@[expose] public section

set_option maxRecDepth 16384

noncomputable section

namespace Cert.KernelIdeal.Val

open Idealize.ShloMosaic

/-- Whether the binary digits of `p` and `q`, four of each, are both one an odd number of times. -/
def odd4 (p q : ℕ) : Bool :=
  (p.testBit 0 && q.testBit 0) ^^ (p.testBit 1 && q.testBit 1) ^^ (p.testBit 2 && q.testBit 2) ^^ (p.testBit 3 && q.testBit 3)

/-- The entry of the 16 by 16 sign matrix. -/
def sg (p q : ℕ) : ℝ := if odd4 p q then -1 else 1

/-- Four rounds of sums and differences multiply by the sign matrix. -/
theorem fw_nat (v : ℕ → EReal) (r : ℕ → ℝ) (h : ∀ q : Fin 16, v q.val = r q.val) (p : Fin 16) :
    fw v p.val = ((∑ q : Fin 16, sg p.val q.val * r q.val : ℝ) : EReal) := by
  have h16 : ∀ q, q < 16 → v q = r q := fun q hq => h ⟨q, hq⟩
  fin_cases p <;>
  · simp only [fw, st, Nat.reduceDiv, Nat.reduceMod, Nat.reduceAdd, Nat.reduceSub, Nat.zero_div, Nat.zero_mod, Nat.zero_add,
      reduceIte, OfNat.ofNat_ne_zero, one_ne_zero]
    rw [h16 0 (by decide), h16 1 (by decide), h16 2 (by decide), h16 3 (by decide), h16 4 (by decide), h16 5 (by decide),
      h16 6 (by decide), h16 7 (by decide), h16 8 (by decide), h16 9 (by decide), h16 10 (by decide), h16 11 (by decide),
      h16 12 (by decide), h16 13 (by decide), h16 14 (by decide), h16 15 (by decide)]
    simp only [← EReal.coe_add, ← EReal.coe_sub]
    congr 1
    simp [Fin.sum_univ_succ, sg, odd4, Nat.testBit]
    ring

/-- The same with the sixteen reals given over their places only. -/
theorem fw_real (v : ℕ → EReal) (r : Fin 16 → ℝ) (h : ∀ q : Fin 16, v q.val = r q) (p : Fin 16) :
    fw v p.val = ((∑ q : Fin 16, sg p.val q.val * r q : ℝ) : EReal) := by
  have e := fw_nat v (fun n => if h : n < 16 then r ⟨n, h⟩ else 0) (fun q => by rw [h q, dif_pos q.isLt]) p
  simpa using e

end Cert.KernelIdeal.Val
-- ==== Proof.Equation.lean ====
module

public import proofs.«01_k».proof.Proof.Signs
public import Mathlib.Tactic.LinearCombination
public import Mathlib.Logic.Equiv.Fin.Basic

@[expose] public section

noncomputable section

namespace Cert.KernelIdeal.Val

open Idealize.ShloMosaic

/-- Head `2 q + t`. -/
def hd (q : Fin 16) (t : Fin 2) : Fin 32 := ⟨2 * q.val + t.val, by omega⟩

/-- Minus one where both heads are odd ones of their pairs, one elsewhere. -/
def tw (s t : Fin 2) : ℝ := if s = 1 ∧ t = 1 then -1 else 1

/-- The sign matrix is symmetric. -/
theorem sg_comm (p q : ℕ) : sg p q = sg q p := by
  unfold sg odd4
  simp only [Bool.and_comm (p.testBit _)]

/-- A sum of reals is the same sum of extended reals. -/
theorem coe_sum {n : ℕ} (f : Fin n → ℝ) : ((∑ i, f i : ℝ) : EReal) = ∑ i, (f i : EReal) :=
  map_sum (⟨⟨((↑) : ℝ → EReal), EReal.coe_zero⟩, EReal.coe_add⟩ : ℝ →+ EReal) f Finset.univ

/-- A sum over the heads, pair by pair. -/
theorem sum_pairs (f : Fin 32 → ℝ) : ∑ g, f g = ∑ q : Fin 16, (f (hd q 0) + f (hd q 1)) := by
  rw [← (finProdFinEquiv (m := 16) (n := 2)).sum_comp f, Fintype.sum_prod_type]
  refine Finset.sum_congr rfl fun q _ => ?_
  rw [Fin.sum_univ_two]
  congr 2 <;> exact Fin.ext (by simp [hd, finProdFinEquiv]; try omega)

/-- The weights of pair `q` in the kernel: the sum of the pair's matrices where the halves agree, else the difference. -/
def wt (W : Fin 32 → Fin 128 → ℝ) (β : ℝ) (q : Fin 16) (e s : Fin 2) (k : Fin 128) : ℝ :=
  (if e = s then W (hd q 0) k + W (hd q 1) k else W (hd q 0) k - W (hd q 1) k) * (β * (1 / 32))

/-- The heads `2 q' + t` of one batch, row and column, summed with the signs of row `q`. -/
def part (X : Fin 32 → Fin 128 → ℝ) (q : Fin 16) (t : Fin 2) (k : Fin 128) : ℝ :=
  ∑ q' : Fin 16, sg q q' * X (hd q' t) k

/-- One output of the kernel, as reals. -/
def kerR (X W : Fin 32 → Fin 128 → ℝ) (β : ℝ) (p : Fin 16) (s : Fin 2) : ℝ :=
  ∑ q : Fin 16, sg p q *
    ((∑ k, part X q 0 k * wt W β q 0 s k) + ∑ k, part X q 1 k * wt W β q 1 s k)

/-- One output of the reference, as reals. -/
def refR (H : Fin 32 → Fin 32 → ℝ) (X W : Fin 32 → Fin 128 → ℝ) (β : ℝ) (h : Fin 32) : ℝ :=
  (∑ g, H g h * ∑ k, W g k * ∑ g', H g' g * X g' k) * β

/-- The two are equal: the 32 by 32 matrix is the 16 by 16 one times the 2 by 2 one, and the square of its scale
    is `1 / 32`. -/
theorem kerR_eq_refR (H : Fin 32 → Fin 32 → ℝ) (c : ℝ) (hc : c * c = 1 / 32)
    (hH : ∀ p q s t, H (hd p s) (hd q t) = sg p q * tw s t * c)
    (X W : Fin 32 → Fin 128 → ℝ) (β : ℝ) (p : Fin 16) (s : Fin 2) :
    kerR X W β p s = refR H X W β (hd p s) := by
  have hy : ∀ (q : Fin 16) (t : Fin 2) (k : Fin 128), ∑ g', H g' (hd q t) * X g' k
      = c * (part X q 0 k + tw 1 t * part X q 1 k) := by
    intro q t k
    unfold part
    rw [sum_pairs, mul_add, ← mul_assoc, Finset.mul_sum, Finset.mul_sum, ← Finset.sum_add_distrib]
    refine Finset.sum_congr rfl fun q' _ => ?_
    rw [hH, hH, sg_comm q q']
    have : tw 0 t = 1 := by simp [tw]
    rw [this]
    ring
  unfold kerR refR
  rw [sum_pairs, Finset.sum_mul]
  refine Finset.sum_congr rfl fun q _ => ?_
  simp only [hy, hH]
  rw [sg_comm q p]
  generalize sg p q = σ
  simp only [Finset.mul_sum, Finset.sum_mul, ← Finset.sum_add_distrib]
  refine Finset.sum_congr rfl fun k _ => ?_
  generalize part X q 0 k = A
  generalize part X q 1 k = B
  fin_cases s <;> simp [wt, tw]
  · linear_combination (-(σ * β * (W (hd q 0) k * (A + B) + W (hd q 1) k * (A - B)))) * hc
  · linear_combination (-(σ * β * (W (hd q 0) k * (A + B) - W (hd q 1) k * (A - B)))) * hc

/-- The scaled 32 by 32 matrix. -/
def Hm (a b : Fin 32) : ℝ :=
  sg (a.val / 2) (b.val / 2) * tw ⟨a.val % 2, Nat.mod_lt _ (by decide)⟩ ⟨b.val % 2, Nat.mod_lt _ (by decide)⟩ * (1 / Real.sqrt 32)

/-- Its entries, pair by pair. -/
theorem Hm_hd (p q : Fin 16) (s t : Fin 2) : Hm (hd p s) (hd q t) = sg p q * tw s t * (1 / Real.sqrt 32) := by
  have h1 : ∀ (p : Fin 16) (s : Fin 2), (hd p s).val / 2 = p.val := fun p s => by simp only [hd]; omega
  have h2 : ∀ (p : Fin 16) (s : Fin 2), (⟨(hd p s).val % 2, Nat.mod_lt _ (by decide)⟩ : Fin 2) = s := fun p s =>
    Fin.ext (by simp only [hd]; omega)
  unfold Hm
  rw [h1, h1, h2, h2]

/-- The scale squared. -/
theorem scale_sq : (1 / Real.sqrt 32) * (1 / Real.sqrt 32) = 1 / 32 := by
  rw [div_mul_div_comm, Real.mul_self_sqrt (by norm_num), one_mul]

end Cert.KernelIdeal.Val
-- ==== Proof.KerValue.lean ====
module

public import proofs.«01_k».proof.Proof.Array
public import proofs.«01_k».proof.Proof.Equation
public import Idealize.ShloMosaic.Lib.Claim
public import Idealize.ShloMosaic.Lib.StableHlo.ReadAt

@[expose] public section

set_option maxRecDepth 16384

noncomputable section

namespace Cert.KernelIdeal.Val

open Idealize.ShloMosaic Idealize.ShloMosaic.TcCoe Idealize.ShloMosaic.Tactic
open Cert.KernelIdeal.Gen

/-- Place `k` of half `e`. -/
def at2 (e : Fin 2) (k : Fin 128) : Fin 256 := ⟨128 * e.val + k.val, by omega⟩

set_option maxHeartbeats 1600000 in
/-- The matrices the region reads, on real arguments. -/
theorem V_weights (m : (ℓ : Loc nD τ sig) → Buf (Elt Ideal) ℓ) (c : Dev nD) (Wr : S32x128x128.Idx → ℝ) (br : S128.Idx → ℝ)
    (hW : ∀ i, (m ((c : Thread nD τ).loc main_arg1) : S32x128x128.Idx → EReal) i = (Wr i : EReal))
    (hb : ∀ i, (m ((c : Thread nD τ).loc main_arg2) : S128.Idx → EReal) i = (br i : EReal))
    (q : Fin 16) (e s : Fin 2) (k d : Fin 128) :
    (V m c main_v13 : S16x256x256.Idx → EReal) (ix3 q (at2 e k) (at2 s d))
      = (wt (fun g k => Wr (ix3 g k d)) (br (ix1 d)) q e s k : EReal) := by
  have h32 : Ideal.ofBits FTy.f32 0x3D000000#32 = ((1 / 32 : ℝ) : EReal) := by
    simp [Ideal.ofBits, Ideal.ieee, -EReal.coe_mul]; norm_num
  have hq : (⟨1 + 2 * q.val, by omega⟩ : Fin 32) = hd q 1 := Fin.ext (by simp [hd]; omega)
  have hq0 : (⟨2 * q.val, by omega⟩ : Fin 32) = hd q 0 := rfl
  have hW' : ∀ i, (m (c, Proc.tc.devRef main_arg1) : S32x128x128.Idx → EReal) i = (Wr i : EReal) := hW
  have hb' : ∀ i, (m (c, Proc.tc.devRef main_arg2) : S128.Idx → EReal) i = (br i : EReal) := hb
  have hk : ∀ k : Fin 128, (at2 0 k).val = k.val := fun k => by simp [at2]
  have hk1 : ∀ k : Fin 128, (at2 1 k).val = 128 + k.val := fun k => by simp [at2]
  have hs : ∀ e : Fin 2, e = 0 ∨ e = 1 := by decide
  unfold V
  after_reads_at
  split <;> rename_i hl
  all_goals
    after_reads_at
    rcases hs e with rfl | rfl <;> rcases hs s with rfl | rfl <;> simp only [hk, hk1] at hl
  all_goals first
    | (exfalso; have := k.isLt; omega)
    | simp [hk, hk1, hq, hq0, hW', hb', h32, wt, ← EReal.coe_mul, ← EReal.coe_add, ← EReal.coe_sub]

/-- Every output of the kernel, on real arguments. -/
theorem G_real (x : Vec Ideal S4x32x4096x128 .f32) (w : Vec Ideal S16x256x256 .bf16) (xr : S4x32x4096x128.Idx → ℝ)
    (W : Fin 32 → Fin 128 → ℝ) (β : ℝ) (hx : ∀ i, x i = (xr i : EReal)) (b : Fin 4) (p : Fin 16) (s : Fin 2) (n : Fin 4096) (d : Fin 128)
    (hw : ∀ q e k, w (ix3 q (at2 e k) (at2 s d)) = (wt W β q e s k : EReal)) :
    G x w (ix4 b (hd p s) n d) = (kerR (fun g k => xr (ix4 b g n k)) W β p s : EReal) := by
  have hn : (⟨512 * (n.val / 512) + n.val % 512, by omega⟩ : Fin 4096) = n := Fin.ext (by simp; omega)
  have hU : ∀ (q : Fin 16) (e : Fin 2) (k : Fin 128), U (slab x b ⟨n.val / 512, by omega⟩) (ix3 q ⟨n.val % 512, Nat.mod_lt _ (by decide)⟩ (at2 e k))
      = (part (fun g k => xr (ix4 b g n k)) q e k : EReal) := by
    intro q e k
    rw [U_ix]
    refine (fw_real _ (fun q' => xr (ix4 b ⟨(2 * q' + e.val) % 32, Nat.mod_lt _ (by decide)⟩ n k)) (fun q' => ?_) q).trans ?_
    · unfold pairX at2 slab
      fin_cases e <;> simp [hn, hx]
    · unfold part
      congr 1
      refine Finset.sum_congr rfl fun q' _ => ?_
      congr 3
      exact Fin.ext (by simp [hd]; omega)
  have hp : (hd p s).val / 2 = p.val := by simp only [hd]; omega
  have hs : (hd p s).val % 2 = s.val := by simp only [hd]; omega
  show T (M (U (slab x b ⟨n.val / 512, _⟩)) w) (ix4 0 (hd p s) ⟨n.val % 512, _⟩ d) = _
  rw [T_ix, hp]
  refine fw_real _ _ (fun q => ?_) p
  rw [M_ix, Fin.sum_univ_two_halves 128 128 rfl]
  have h0 : ∀ h, (⟨(2 * q.val + (hd p s).val % 2) % 32 / 2 % 16, h⟩ : Fin 16) = q := fun _ => Fin.ext (by simp [hs]; omega)
  have h1 : ∀ h, (⟨(128 * ((2 * q.val + (hd p s).val % 2) % 32 % 2) + d.val) % 256, h⟩ : Fin 256) = at2 s d := fun _ =>
    Fin.ext (by simp [hs, at2]; omega)
  have h2 : ∀ (k : Fin 128) h, (⟨k.val, h⟩ : Fin 256) = at2 0 k := fun k _ => Fin.ext (by simp [at2])
  have h3 : ∀ (k : Fin 128) h, (⟨128 + k.val, h⟩ : Fin 256) = at2 1 k := fun k _ => Fin.ext (by simp [at2])
  simp only [h0, h1, h2, h3, hU, hw, ← EReal.coe_mul, ← coe_sum, ← EReal.coe_add]

end Cert.KernelIdeal.Val
-- ==== Proof.RefValue.lean ====
module

public import proofs.«01_k».proof.Proof.Equation
public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Val

open Idealize.ShloMosaic Idealize.ShloMosaic.TcCoe Idealize.ShloMosaic.Tactic
open Cert.ReferenceIdeal.Gen Cert.KernelIdeal.Val

/-- The sign table printed in the reference: minus one where the five binary digits of row and column are both one an
    odd number of times. -/
theorem lit0_eq : ∀ a b : Fin 32, lit0 ⟨a.val * 32 + b.val, by omega⟩
    = if odd4 (a.val / 2) (b.val / 2) ^^ (decide (a.val % 2 = 1) && decide (b.val % 2 = 1)) then 0xBF800000#32
      else 0x3F800000#32 := by decide +kernel

/-- An entry of the reference's matrix. -/
theorem entry_eq (a b : Fin 32) :
    Ideal.div (Ideal.ofBits FTy.f32 (lit0 (S32x32.rowMajor (ix2 a b)))) (Ideal.sqrt (Ideal.ofBits FTy.f32 0x42000000#32))
      = (Hm a b : EReal) := by
  have h32 : Ideal.ofBits FTy.f32 0x42000000#32 = ((32 : ℝ) : EReal) := by
    simp [Ideal.ofBits, Ideal.ieee, -EReal.coe_mul]; norm_num
  have h1 : Ideal.ofBits FTy.f32 0x3F800000#32 = ((1 : ℝ) : EReal) := by
    simp [Ideal.ofBits, Ideal.ieee, -EReal.coe_mul]; norm_num
  have hm1 : Ideal.ofBits FTy.f32 0xBF800000#32 = ((-1 : ℝ) : EReal) := by
    simp [Ideal.ofBits, Ideal.ieee, -EReal.coe_mul]; norm_num
  have hi : S32x32.rowMajor (ix2 a b) = (⟨a.val * 32 + b.val, by omega⟩ : Fin 1024) :=
    Fin.ext (Shape.rowMajor_val_two _)
  rw [hi, lit0_eq, h32, Ideal.sqrt_coe, if_neg (show ¬ (32 : ℝ) < 0 by norm_num), Ideal.div_coe (by positivity)]
  have ht : tw ⟨a.val % 2, Nat.mod_lt _ (by decide)⟩ ⟨b.val % 2, Nat.mod_lt _ (by decide)⟩
      = if decide (a.val % 2 = 1) && decide (b.val % 2 = 1) then -1 else 1 := by
    simp [tw, Fin.ext_iff]
  unfold Hm sg
  rw [ht]
  cases odd4 (a.val / 2) (b.val / 2) <;> cases decide (a.val % 2 = 1) && decide (b.val % 2 = 1) <;>
    simp [h1, hm1, -one_div, ← EReal.coe_mul]

/-- The matrix as one array. -/
theorem table_eq : (Host.divf ((fun i => FloatOps.ofBits .f32 (lit0 (S32x32.rowMajor i)))) (broadcastInDim S32x32 ![] bcast_S_S32x32 (Host.sqrt (constant S_ .f32 0x42000000#32))) : FVec Ideal S32x32 .f32) = fun i => (Hm (i 0) (i 1) : EReal) := by
  funext i
  idx_vars i
  pointwise
  exact entry_eq i0 i1

/-- The reference's result as one expression of its arguments. -/
abbrev ref (x : FVec Ideal S4x32x4096x128 .f32) (W : FVec Ideal S32x128x128 .f32) (be : FVec Ideal S128 .f32) :
    FVec Ideal S4x32x4096x128 .f32 :=
  mulf (transpose S4x32x4096x128 [1, 0, 2, 3] (Host.dotGeneral dot_S32x32_S4x32x4096x128_S32x4x4096x128_0_1_1_023_n_n none (Host.divf ((fun i => FloatOps.ofBits .f32 (lit0 (S32x32.rowMajor i)))) (broadcastInDim S32x32 ![] bcast_S_S32x32 (Host.sqrt (constant S_ .f32 0x42000000#32)))) (transpose S4x32x4096x128 [2, 0, 3, 1] (Host.dotGeneral dot_S32x128x128_S4x32x4096x128_S32x128x4x4096_1_3_2_02_0_1 none W (transpose S4x32x4096x128 [1, 0, 2, 3] (Host.dotGeneral dot_S32x32_S4x32x4096x128_S32x4x4096x128_0_1_1_023_n_n none (Host.divf ((fun i => FloatOps.ofBits .f32 (lit0 (S32x32.rowMajor i)))) (broadcastInDim S32x32 ![] bcast_S_S32x32 (Host.sqrt (constant S_ .f32 0x42000000#32)))) x) transposes_S32x4x4096x128_S4x32x4096x128_1_0_2_3)) transposes_S32x128x4x4096_S4x32x4096x128_2_0_3_1)) transposes_S32x4x4096x128_S4x32x4096x128_1_0_2_3) (broadcastInDim S4x32x4096x128 ![0, 1, 2, 3] bcast_S1x1x1x128_S4x32x4096x128_0_1_2_3 (broadcastInDim S1x1x1x128 ![3] bcast_S128_S1x1x1x128_3 be))

/-- On real arguments the reference is the real expression of them. -/
theorem ref_real (x : FVec Ideal S4x32x4096x128 .f32) (W : FVec Ideal S32x128x128 .f32) (be : FVec Ideal S128 .f32)
    (xr : S4x32x4096x128.Idx → ℝ) (Wr : S32x128x128.Idx → ℝ) (br : S128.Idx → ℝ)
    (hx : ∀ i, x i = (xr i : EReal)) (hW : ∀ i, W i = (Wr i : EReal)) (hb : ∀ i, be i = (br i : EReal))
    (b : Fin 4) (h : Fin 32) (n : Fin 4096) (d : Fin 128) :
    ref x W be (ix4 b h n d)
      = (refR Hm (fun g k => xr (ix4 b g n k)) (fun g k => Wr (ix3 g k d)) (br (ix1 d)) h : EReal) := by
  unfold ref
  rw [table_eq]
  clean_types
  pointwise
  simp only [hx, hW, hb, ← EReal.coe_mul, ← coe_sum]
  rfl

end Cert.ReferenceIdeal.Val
-- ==== Proof.Result.lean ====
module

public import proofs.«01_k».proof.Proof.KerValue
public import proofs.«01_k».proof.Proof.RefValue

@[expose] public section

set_option maxRecDepth 16384

noncomputable section

namespace Cert.KernelIdeal.Val

open Idealize.ShloMosaic Idealize.ShloMosaic.TcCoe
open Cert.KernelIdeal.Gen

/-- On real arguments the array the kernel leaves is the reference's result. -/
theorem arr_eq_ref (m : (ℓ : Loc nD τ sig) → Buf (Elt Ideal) ℓ) (c : Dev nD) (xr : S4x32x4096x128.Idx → ℝ)
    (Wr : S32x128x128.Idx → ℝ) (br : S128.Idx → ℝ)
    (hx : ∀ i, (m ((c : Thread nD τ).loc main_arg0) : S4x32x4096x128.Idx → EReal) i = (xr i : EReal))
    (hW : ∀ i, (m ((c : Thread nD τ).loc main_arg1) : S32x128x128.Idx → EReal) i = (Wr i : EReal))
    (hb : ∀ i, (m ((c : Thread nD τ).loc main_arg2) : S128.Idx → EReal) i = (br i : EReal)) :
    ((dats m 0 c).arrAt 2 cfg0.N : FVec Ideal S4x32x4096x128 .f32)
      = Cert.ReferenceIdeal.Val.ref (m ((c : Thread nD τ).loc main_arg0)) (m ((c : Thread nD τ).loc main_arg1))
          (m ((c : Thread nD τ).loc main_arg2)) := by
  rw [arr_eq]
  funext y
  idx_vars y
  obtain ⟨p, s, rfl⟩ : ∃ p s, y1 = hd p s :=
    ⟨⟨y1.val / 2, by omega⟩, ⟨y1.val % 2, by omega⟩, Fin.ext (by simp only [hd]; omega)⟩
  rw [G_real _ _ xr (fun g k => Wr (ix3 g k y3)) (br (ix1 y3)) hx y0 p s y2 y3 fun q e k => V_weights m c Wr br hW hb q e s k y3,
    Cert.ReferenceIdeal.Val.ref_real _ _ _ xr Wr br hx hW hb, kerR_eq_refR Hm _ scale_sq Hm_hd]

end Cert.KernelIdeal.Val
-- ==== Proof.Finite.lean ====
module

public import proofs.«01_k».proof.Pre_all_finite
public import Idealize.ShloMosaic.Lib.Pointwise
public import Idealize.ShloMosaic.Lib.Tactic.CleanTypes

@[expose] public section

set_option maxRecDepth 16384

noncomputable section

namespace Cert.Pre_all_finite

open Idealize.ShloMosaic

/-- The shape relations the predicate's operations take. -/
theorem facts : Facts where
  bcast_S_S4x32x4096x128 := by decide
  bcast_S_S32x128x128 := by decide
  bcast_S_S128 := by decide

/-- An extended real whose absolute value compares below the infinity is a real. -/
theorem real_of_lt (a : EReal) (h : Ideal.cmp .olt (max a (-a)) (Ideal.ofBits .f32 0x7F800000#32) = 1#1) :
    ∃ r : ℝ, a = (r : EReal) := by
  have ht : Ideal.ofBits .f32 0x7F800000#32 = (⊤ : EReal) := by simp [Ideal.ofBits, Ideal.ieee]
  rw [ht] at h
  induction a with
  | bot => simp [Ideal.cmp] at h
  | top => simp [Ideal.cmp] at h
  | coe r => exact ⟨r, rfl⟩

/-- An argument array the predicate holds of has real entries: the first argument. -/
theorem real0 [Facts] (x : FVec Ideal S4x32x4096x128 .f32) (W : FVec Ideal S32x128x128 .f32) (be : FVec Ideal S128 .f32)
    (h : (fn (F := Ideal) x W be).1 = fun _ => 1#1) : ∃ r : S4x32x4096x128.Idx → ℝ, ∀ i, x i = (r i : EReal) := by
  have : ∀ i, ∃ r : ℝ, x i = (r : EReal) := fun i => real_of_lt _ (congrFun h i)
  exact ⟨fun i => (this i).choose, fun i => (this i).choose_spec⟩

/-- The second argument. -/
theorem real1 [Facts] (x : FVec Ideal S4x32x4096x128 .f32) (W : FVec Ideal S32x128x128 .f32) (be : FVec Ideal S128 .f32)
    (h : (fn (F := Ideal) x W be).2.1 = fun _ => 1#1) : ∃ r : S32x128x128.Idx → ℝ, ∀ i, W i = (r i : EReal) := by
  have : ∀ i, ∃ r : ℝ, W i = (r : EReal) := fun i => real_of_lt _ (congrFun h i)
  exact ⟨fun i => (this i).choose, fun i => (this i).choose_spec⟩

/-- The third argument. -/
theorem real2 [Facts] (x : FVec Ideal S4x32x4096x128 .f32) (W : FVec Ideal S32x128x128 .f32) (be : FVec Ideal S128 .f32)
    (h : (fn (F := Ideal) x W be).2.2 = fun _ => 1#1) : ∃ r : S128.Idx → ℝ, ∀ i, be i = (r i : EReal) := by
  have : ∀ i, ∃ r : ℝ, be i = (r : EReal) := fun i => real_of_lt _ (congrFun h i)
  exact ⟨fun i => (this i).choose, fun i => (this i).choose_spec⟩

end Cert.Pre_all_finite
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Result
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments and leaves every counter at zero. -/
theorem ref_frame : quiescent_ReferenceIdeal (hReferenceIdeal := Cert.ReferenceIdeal.Gen.facts) := by
  intro m g _
  exact (θ_run _ _ _).mono (fun r h => ⟨fun c => (h c).2, sem_eq_zero_of_no_sems (by decide) r.2⟩)
    (Cert.ReferenceIdeal.Value.run (F := Ideal) m g)

/-- On finite arguments kernel and reference leave the same result. -/
theorem value : algebraic_KernelIdeal_ReferenceIdeal_pre_all_finite (hKernelIdeal := Cert.KernelIdeal.Gen.facts)
    (hReferenceIdeal := Cert.ReferenceIdeal.Gen.facts) (hPre_all_finite := Cert.Pre_all_finite.facts) := by
  intro m g m' g' hpre hagree
  refine ⟨fun c => (Cert.KernelIdeal.Gen.dats m 0 c).arrAt 2 Cert.KernelIdeal.cfg0.N, Cert.KernelIdeal.Value.run_blocks m g,
    (θ_run _ _ _).mono (fun r h c => ⟨(h c).1.trans ?_, (h c).2⟩) (Cert.ReferenceIdeal.Value.run (F := Ideal) m' g')⟩
  obtain ⟨h0, h1, h2⟩ := hpre c
  obtain ⟨a0, a1, a2⟩ := hagree c
  haveI := Cert.Pre_all_finite.facts
  obtain ⟨xr, hx⟩ := Cert.Pre_all_finite.real0 _ _ _ h0
  obtain ⟨Wr, hW⟩ := Cert.Pre_all_finite.real1 _ _ _ h1
  obtain ⟨br, hb⟩ := Cert.Pre_all_finite.real2 _ _ _ h2
  rw [a0, a1, a2]
  exact (Cert.KernelIdeal.Val.arr_eq_ref m c xr Wr br hx hW hb).symm

/-- Every claim of the certificate. -/
theorem claim : Cert.Claim :=
  ⟨Cert.Kernel.Gen.facts, Cert.KernelIdeal.Gen.facts, Cert.ReferenceIdeal.Gen.facts, Cert.Pre_all_finite.facts,
    fun m g _ => Cert.Kernel.Gen.frame m g, fun m g _ => Cert.KernelIdeal.Gen.frame m g,
    fun m g _ => Cert.KernelIdeal.Gen.frame m g, ref_frame, fun m g _ => ref_frame m g trivial, trivial, value⟩

end Cert.Proof

end
